-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "neg_sixth" .f32 0xBE2AAAAB#32 ((-1 / 6 : ℝ) : EReal)
  ∧ IdealRules.named_const.Statement Cert.KernelIdeal.κ "sixth" .f32 0x3E2AAAAB#32 ((1 / 6 : ℝ) : EReal)
  ∧ IdealRules.named_const.Statement Cert.KernelIdeal.κ "two_thirds" .f32 0x3F2AAAAB#32 ((2 / 3 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x19x128 : Shape := ⟨3, ![128, 19, 128]⟩
abbrev S128x128 : Shape := ⟨2, ![128, 128]⟩
abbrev S128 : Shape := ⟨1, ![128]⟩
abbrev S1x128 : Shape := ⟨2, ![1, 128]⟩
abbrev S128x1x128 : Shape := ⟨3, ![128, 1, 128]⟩

abbrev nBuf : Space → Nat
  | .hbm => 5
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S128x19x128, .f32⟩
  | .hbm, ⟨2, _⟩ => ⟨S128x128, .f32⟩
  | .hbm, ⟨3, _⟩ => ⟨S128x128, .f32⟩
  | .hbm, ⟨4, _⟩ => ⟨S4096x128, .f32⟩
  | .local _ .vmem, ⟨0, _⟩ => ⟨S4096x128, .f32⟩
  | .local _ .vmem, ⟨1, _⟩ => ⟨S128x19x128, .f32⟩
  | .local _ .vmem, ⟨2, _⟩ => ⟨S128x128, .f32⟩
  | .local _ .vmem, ⟨3, _⟩ => ⟨S128x128, .f32⟩
  | .local _ .vmem, ⟨4, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x19x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "neg_sixth" => some ((-1 / 6 : ℝ) : EReal)
  | "sixth" => some ((1 / 6 : ℝ) : EReal)
  | "third" => some ((1 / 3 : ℝ) : EReal)
  | "two_thirds" => some ((2 / 3 : ℝ) : EReal)
  | _ => none
-- ==== ReferenceIdeal.lean ====
abbrev S4096x128 : Shape := ⟨2, ![4096, 128]⟩
abbrev S128x19x128 : Shape := ⟨3, ![128, 19, 128]⟩
abbrev S128x128 : Shape := ⟨2, ![128, 128]⟩
abbrev S4x4 : Shape := ⟨2, ![4, 4]⟩
abbrev S_ : Shape := ⟨0, ![]⟩
abbrev S128 : Shape := ⟨1, ![128]⟩
abbrev S1x128 : Shape := ⟨2, ![1, 128]⟩
abbrev S128x1x128 : Shape := ⟨3, ![128, 1, 128]⟩
abbrev S524288 : Shape := ⟨1, ![524288]⟩
abbrev S2097152 : Shape := ⟨1, ![2097152]⟩
abbrev S4 : Shape := ⟨1, ![4]⟩
abbrev S1x4 : Shape := ⟨2, ![1, 4]⟩
abbrev S524288x4 : Shape := ⟨2, ![524288, 4]⟩
abbrev S2097152x19 : Shape := ⟨2, ![2097152, 19]⟩
abbrev S2097152x1 : Shape := ⟨2, ![2097152, 1]⟩
abbrev S2097152x2 : Shape := ⟨2, ![2097152, 2]⟩
abbrev S524288x1 : Shape := ⟨2, ![524288, 1]⟩
abbrev S524288x1x4 : Shape := ⟨3, ![524288, 1, 4]⟩
abbrev S524288x4x19 : Shape := ⟨3, ![524288, 4, 19]⟩
abbrev S524288x1x19 : Shape := ⟨3, ![524288, 1, 19]⟩
abbrev S4096x128x19 : Shape := ⟨3, ![4096, 128, 19]⟩
abbrev S4096x2432 : Shape := ⟨2, ![4096, 2432]⟩
abbrev S2432x128 : Shape := ⟨2, ![2432, 128]⟩

abbrev nBuf : Space → Nat
  | .hbm => 152
  | .vmem => 0
  | .smem => 0
  | _ => 0

abbrev hbmTy0_0 (i : Nat) : BufTy := match i % 128 with
  | 0 => ⟨S4096x128, .f32⟩
  | 1 => ⟨S128x19x128, .f32⟩
  | 2 => ⟨S128x128, .f32⟩
  | 3 => ⟨S128x128, .f32⟩
  | 4 => ⟨S4x4, .f32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S4096x128, .f32⟩
  | 19 => ⟨S4096x128, .f32⟩
  | 20 => ⟨S4096x128, .f32⟩
  | 21 => ⟨S_, .f32⟩
  | 22 => ⟨S_, .f32⟩
  | 23 => ⟨S_, .f32⟩
  | 24 => ⟨S_, .f32⟩
  | 25 => ⟨S128, .f32⟩
  | 26 => ⟨S1x128, .f32⟩
  | 27 => ⟨S1x128, .f32⟩
  | 28 => ⟨S1x128, .f32⟩
  | 29 => ⟨S_, .f32⟩
  | 30 => ⟨S_, .i1⟩
  | 31 => ⟨S_, .f32⟩
  | 32 => ⟨S_, .f32⟩
  | 33 => ⟨S1x128, .f32⟩
  | 34 => ⟨S1x128, .f32⟩
  | 35 => ⟨S4096x128, .f32⟩
  | 36 => ⟨S4096x128, .f32⟩
  | 37 => ⟨S_, .f32⟩
  | 38 => ⟨S1x128, .f32⟩
  | 39 => ⟨S1x128, .f32⟩
  | 40 => ⟨S1x128, .f32⟩
  | 41 => ⟨S4096x128, .f32⟩
  | 42 => ⟨S4096x128, .f32⟩
  | 43 => ⟨S_, .f32⟩
  | 44 => ⟨S4096x128, .f32⟩
  | 45 => ⟨S4096x128, .f32⟩
  | 46 => ⟨S128x1x128, .f32⟩
  | 47 => ⟨S128x19x128, .f32⟩
  | 48 => ⟨S128x19x128, .f32⟩
  | 49 => ⟨S_, .f32⟩
  | 50 => ⟨S4x4, .f32⟩
  | 51 => ⟨S4x4, .f32⟩
  | 52 => ⟨S_, .f32⟩
  | 53 => ⟨S_, .f32⟩
  | 54 => ⟨S_, .f32⟩
  | 55 => ⟨S4096x128, .f32⟩
  | 56 => ⟨S4096x128, .f32⟩
  | 57 => ⟨S_, .f32⟩
  | 58 => ⟨S4096x128, .f32⟩
  | 59 => ⟨S4096x128, .f32⟩
  | 60 => ⟨S524288, .f32⟩
  | 61 => ⟨S_, .f32⟩
  | 62 => ⟨S524288, .f32⟩
  | 63 => ⟨S524288, .f32⟩
  | 64 => ⟨S_, .f32⟩
  | 65 => ⟨S524288, .f32⟩
  | 66 => ⟨S524288, .f32⟩
  | 67 => ⟨S524288, .f32⟩
  | 68 => ⟨S524288, .i32⟩
  | 69 => ⟨S_, .i32⟩
  | 70 => ⟨S524288, .i32⟩
  | 71 => ⟨S524288, .i32⟩
  | 72 => ⟨S2097152, .i32⟩
  | 73 => ⟨S4, .i32⟩
  | 74 => ⟨S1x4, .i32⟩
  | 75 => ⟨S524288x4, .i32⟩
  | 76 => ⟨S2097152, .i32⟩
  | 77 => ⟨S524288x4, .i32⟩
  | 78 => ⟨S2097152, .i32⟩
  | 79 => ⟨S2097152, .i32⟩
  | 80 => ⟨S_, .f32⟩
  | 81 => ⟨S2097152x19, .f32⟩
  | 82 => ⟨S_, .i32⟩
  | 83 => ⟨S2097152, .i32⟩
  | 84 => ⟨S2097152, .i1⟩
  | 85 => ⟨S_, .i32⟩
  | 86 => ⟨S2097152, .i32⟩
  | 87 => ⟨S2097152, .i32⟩
  | 88 => ⟨S2097152, .i32⟩
  | 89 => ⟨S_, .i32⟩
  | 90 => ⟨S2097152, .i32⟩
  | 91 => ⟨S2097152, .i1⟩
  | 92 => ⟨S_, .i32⟩
  | 93 => ⟨S2097152, .i32⟩
  | 94 => ⟨S2097152, .i32⟩
  | 95 => ⟨S2097152, .i32⟩
  | 96 => ⟨S2097152x1, .i32⟩
  | 97 => ⟨S2097152x1, .i32⟩
  | 98 => ⟨S2097152x2, .i32⟩
  | 99 => ⟨S_, .f32⟩
  | 100 => ⟨S2097152, .f32⟩
  | 101 => ⟨S2097152x19, .f32⟩
  | 102 => ⟨S_, .f32⟩
  | 103 => ⟨S524288, .f32⟩
  | 104 => ⟨S524288, .f32⟩
  | 105 => ⟨S_, .f32⟩
  | 106 => ⟨S_, .f32⟩
  | 107 => ⟨S524288, .f32⟩
  | 108 => ⟨S524288, .f32⟩
  | 109 => ⟨S_, .f32⟩
  | 110 => ⟨S524288, .f32⟩
  | 111 => ⟨S524288, .i1⟩
  | 112 => ⟨S_, .f32⟩
  | 113 => ⟨S524288, .f32⟩
  | 114 => ⟨S524288, .i1⟩
  | 115 => ⟨S_, .f32⟩
  | 116 => ⟨S_, .i1⟩
  | 117 => ⟨S524288, .i1⟩
  | 118 => ⟨S524288, .i1⟩
  | 119 => ⟨S524288, .i1⟩
  | 120 => ⟨S524288, .f32⟩
  | 121 => ⟨S524288, .f32⟩
  | 122 => ⟨S524288, .f32⟩
  | 123 => ⟨S_, .f32⟩
  | 124 => ⟨S524288, .f32⟩
  | 125 => ⟨S524288, .f32⟩
  | 126 => ⟨S524288x1, .f32⟩
  | 127 => ⟨S_, .f32⟩
  | _ => ⟨S4096x128, .f32⟩

abbrev hbmTy0_1 (i : Nat) : BufTy := match i % 128 with
  | 0 => ⟨S524288x1, .f32⟩
  | 1 => ⟨S524288x1, .f32⟩
  | 2 => ⟨S524288x1, .f32⟩
  | 3 => ⟨S524288x1, .f32⟩
  | 4 => ⟨S524288x4, .f32⟩
  | 5 => ⟨S524288x1x4, .f32⟩
  | 6 => ⟨S524288x1x4, .f32⟩
  | 7 => ⟨S524288x4x19, .f32⟩
  | 8 => ⟨S524288x1x19, .f32⟩
  | 9 => ⟨S4096x128x19, .f32⟩
  | 10 => ⟨S4096x2432, .f32⟩
  | 11 => ⟨S2432x128, .f32⟩
  | 12 => ⟨S4096x128, .f32⟩
  | 13 => ⟨S4096x128, .f32⟩
  | 14 => ⟨S4096x128, .f32⟩
  | 15 => ⟨S_, .f32⟩
  | 16 => ⟨S4096x128, .f32⟩
  | 17 => ⟨S4096x128, .f32⟩
  | 18 => ⟨S_, .f32⟩
  | 19 => ⟨S4096x128, .f32⟩
  | 20 => ⟨S4096x128, .f32⟩
  | 21 => ⟨S4096x128, .f32⟩
  | 22 => ⟨S4096x128, .f32⟩
  | 23 => ⟨S4096x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_2 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_3 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_4 : Ref sig .tc := ⟨.hbm, 49, rfl⟩
abbrev main_v17 : Ref sig .tc := ⟨.hbm, 50, rfl⟩
abbrev main_v18 : Ref sig .tc := ⟨.hbm, 51, rfl⟩
abbrev main_cst_5 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v19 : Ref sig .tc := ⟨.hbm, 59, rfl⟩
abbrev main_v20 : Ref sig .tc := ⟨.hbm, 60, rfl⟩
abbrev main_cst_7 : Ref sig .tc := ⟨.hbm, 61, rfl⟩
abbrev main_v21 : Ref sig .tc := ⟨.hbm, 62, rfl⟩
abbrev main_v22 : Ref sig .tc := ⟨.hbm, 63, rfl⟩
abbrev main_cst_8 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_c_9 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_10 : Ref sig .tc := ⟨.hbm, 80, rfl⟩
abbrev main_v37 : Ref sig .tc := ⟨.hbm, 81, rfl⟩
abbrev main_c_11 : Ref sig .tc := ⟨.hbm, 82, rfl⟩
abbrev main_v38 : Ref sig .tc := ⟨.hbm, 83, rfl⟩
abbrev main_v39 : Ref sig .tc := ⟨.hbm, 84, rfl⟩
abbrev main_c_12 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_c_13 : Ref sig .tc := ⟨.hbm, 89, rfl⟩
abbrev main_v43 : Ref sig .tc := ⟨.hbm, 90, rfl⟩
abbrev main_v44 : Ref sig .tc := ⟨.hbm, 91, rfl⟩
abbrev main_c_14 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_15 : Ref sig .tc := ⟨.hbm, 99, rfl⟩
abbrev main_v51 : Ref sig .tc := ⟨.hbm, 100, rfl⟩
abbrev main_v52 : Ref sig .tc := ⟨.hbm, 101, rfl⟩
abbrev main_cst_16 : Ref sig .tc := ⟨.hbm, 102, rfl⟩
abbrev main_v53 : Ref sig .tc := ⟨.hbm, 103, rfl⟩
abbrev main_v54 : Ref sig .tc := ⟨.hbm, 104, rfl⟩
abbrev main_cst_17 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_cst : Ref sig .tc := ⟨.hbm, 109, rfl⟩
abbrev main_call2_v3 : Ref sig .tc := ⟨.hbm, 110, rfl⟩
abbrev main_call2_v4 : Ref sig .tc := ⟨.hbm, 111, rfl⟩
abbrev main_call2_cst_0 : Ref sig .tc := ⟨.hbm, 112, rfl⟩
abbrev main_call2_v5 : Ref sig .tc := ⟨.hbm, 113, rfl⟩
abbrev main_call2_v6 : Ref sig .tc := ⟨.hbm, 114, rfl⟩
abbrev main_call2_cst_1 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_v12 : Ref sig .tc := ⟨.hbm, 121, rfl⟩
abbrev main_v55 : Ref sig .tc := ⟨.hbm, 122, rfl⟩
abbrev main_cst_18 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_cst_19 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_call3_v0 : Ref sig .tc := ⟨.hbm, 141, rfl⟩
abbrev main_call3_v1 : Ref sig .tc := ⟨.hbm, 142, rfl⟩
abbrev main_call3_cst : Ref sig .tc := ⟨.hbm, 143, rfl⟩
abbrev main_call3_v2 : Ref sig .tc := ⟨.hbm, 144, rfl⟩
abbrev main_call3_v3 : Ref sig .tc := ⟨.hbm, 145, rfl⟩
abbrev main_call3_cst_0 : Ref sig .tc := ⟨.hbm, 146, rfl⟩
abbrev main_call3_v4 : Ref sig .tc := ⟨.hbm, 147, rfl⟩
abbrev main_call3_v5 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩

abbrev nD : Nat := 1
abbrev τ : Topo := Topo.v7x

variable {F : FTy → Type} [FloatOps F]
-- ==== Proof.Consts.lean ====
/- The values of the programs' constants. -/
module

public import Idealize.ShloMosaic.Lib.Pointwise

@[expose] public section

noncomputable section

namespace Cert.Kan

open Idealize.ShloMosaic

/-- The word of `-1`. -/
theorem word_neg_one : Ideal.ofBits .f32 0xBF800000#32 = ((-1 : ℝ) : EReal) := by
  simp [Ideal.ofBits, Ideal.ieee, -EReal.coe_mul]; norm_num
/-- The word of `1`. -/
theorem word_one : Ideal.ofBits .f32 0x3F800000#32 = ((1 : ℝ) : EReal) := by
  simp [Ideal.ofBits, Ideal.ieee, -EReal.coe_mul]; norm_num
/-- The word of `1/2`. -/
theorem word_half : Ideal.ofBits .f32 0x3F000000#32 = ((1 / 2 : ℝ) : EReal) := by
  simp [Ideal.ofBits, Ideal.ieee, -EReal.coe_mul]; norm_num
/-- The word of `-1/2`. -/
theorem word_neg_half : Ideal.ofBits .f32 0xBF000000#32 = ((-(1 / 2) : ℝ) : EReal) := by
  simp [Ideal.ofBits, Ideal.ieee, -EReal.coe_mul]; norm_num
/-- The word of `1/8`. -/
theorem word_eighth : Ideal.ofBits .f32 0x3E000000#32 = ((1 / 8 : ℝ) : EReal) := by
  simp [Ideal.ofBits, Ideal.ieee, -EReal.coe_mul]; norm_num
/-- The word of `4096`. -/
theorem word_4096 : Ideal.ofBits .f32 0x45800000#32 = ((4096 : ℝ) : EReal) := by
  simp [Ideal.ofBits, Ideal.ieee, -EReal.coe_mul]; norm_num
/-- The word of `1/4096`. -/
theorem word_inv_4096 : Ideal.ofBits .f32 0x39800000#32 = ((1 / 4096 : ℝ) : EReal) := by
  simp [Ideal.ofBits, Ideal.ieee, -EReal.coe_mul]; norm_num
/-- The word added to the variance is a positive real. -/
theorem word_eps : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]
/-- The word of `2`. -/
theorem word_2 : Ideal.ofBits .f32 0x40000000#32 = ((2 : ℝ) : EReal) := by
  simp [Ideal.ofBits, Ideal.ieee, -EReal.coe_mul]; norm_num
/-- The word of `3`. -/
theorem word_3 : Ideal.ofBits .f32 0x40400000#32 = ((3 : ℝ) : EReal) := by
  simp [Ideal.ofBits, Ideal.ieee, -EReal.coe_mul]; norm_num
/-- The word of `4`. -/
theorem word_4 : Ideal.ofBits .f32 0x40800000#32 = ((4 : ℝ) : EReal) := by
  simp [Ideal.ofBits, Ideal.ieee, -EReal.coe_mul]; norm_num
/-- The word of `5`. -/
theorem word_5 : Ideal.ofBits .f32 0x40A00000#32 = ((5 : ℝ) : EReal) := by
  simp [Ideal.ofBits, Ideal.ieee, -EReal.coe_mul]; norm_num
/-- The word of `6`. -/
theorem word_6 : Ideal.ofBits .f32 0x40C00000#32 = ((6 : ℝ) : EReal) := by
  simp [Ideal.ofBits, Ideal.ieee, -EReal.coe_mul]; norm_num
/-- The word of `7`. -/
theorem word_7 : Ideal.ofBits .f32 0x40E00000#32 = ((7 : ℝ) : EReal) := by
  simp [Ideal.ofBits, Ideal.ieee, -EReal.coe_mul]; norm_num
/-- The word of `8`. -/
theorem word_8 : Ideal.ofBits .f32 0x41000000#32 = ((8 : ℝ) : EReal) := by
  simp [Ideal.ofBits, Ideal.ieee, -EReal.coe_mul]; norm_num
/-- The word of `9`. -/
theorem word_9 : Ideal.ofBits .f32 0x41100000#32 = ((9 : ℝ) : EReal) := by
  simp [Ideal.ofBits, Ideal.ieee, -EReal.coe_mul]; norm_num
/-- The word of `10`. -/
theorem word_10 : Ideal.ofBits .f32 0x41200000#32 = ((10 : ℝ) : EReal) := by
  simp [Ideal.ofBits, Ideal.ieee, -EReal.coe_mul]; norm_num
/-- The word of `11`. -/
theorem word_11 : Ideal.ofBits .f32 0x41300000#32 = ((11 : ℝ) : EReal) := by
  simp [Ideal.ofBits, Ideal.ieee, -EReal.coe_mul]; norm_num
/-- The word of `12`. -/
theorem word_12 : Ideal.ofBits .f32 0x41400000#32 = ((12 : ℝ) : EReal) := by
  simp [Ideal.ofBits, Ideal.ieee, -EReal.coe_mul]; norm_num
/-- The word of `13`. -/
theorem word_13 : Ideal.ofBits .f32 0x41500000#32 = ((13 : ℝ) : EReal) := by
  simp [Ideal.ofBits, Ideal.ieee, -EReal.coe_mul]; norm_num
/-- The word of `14`. -/
theorem word_14 : Ideal.ofBits .f32 0x41600000#32 = ((14 : ℝ) : EReal) := by
  simp [Ideal.ofBits, Ideal.ieee, -EReal.coe_mul]; norm_num
/-- The word of `15`. -/
theorem word_15 : Ideal.ofBits .f32 0x41700000#32 = ((15 : ℝ) : EReal) := by
  simp [Ideal.ofBits, Ideal.ieee, -EReal.coe_mul]; norm_num
/-- The word of `-3`. -/
theorem word_neg_3 : Ideal.ofBits .f32 0xC0400000#32 = ((-3 : ℝ) : EReal) := by
  simp [Ideal.ofBits, Ideal.ieee, -EReal.coe_mul]; norm_num
/-- The word of `-6`. -/
theorem word_neg_6 : Ideal.ofBits .f32 0xC0C00000#32 = ((-6 : ℝ) : EReal) := by
  simp [Ideal.ofBits, Ideal.ieee, -EReal.coe_mul]; norm_num

end Cert.Kan

end
-- ==== Proof.Spline.lean ====
/- The cubic pieces and the weights that one entry gives to the nineteen columns. -/
module

public import Idealize.ShloMosaic.Lib.Pointwise

@[expose] public section

noncomputable section

namespace Cert.Kan

/-- The first cubic piece. -/
def piece0 (t : ℝ) : ℝ := ((-(1 / 6) * t + 1 / 2) * t - 1 / 2) * t + 1 / 6
/-- The second cubic piece. -/
def piece1 (t : ℝ) : ℝ := (1 / 2 * t - 1) * t * t + 2 / 3
/-- The third cubic piece. -/
def piece2 (t : ℝ) : ℝ := ((-(1 / 2) * t + 1 / 2) * t + 1 / 2) * t + 1 / 6
/-- The fourth cubic piece. -/
def piece3 (t : ℝ) : ℝ := 1 / 6 * t * t * t

/-- The weight of column `k` for an entry in cell `m` with local coordinate `t`: piece `j` goes to column `m + j`. -/
def weight (m : ℕ) (t : ℝ) (k : ℕ) : ℝ :=
  (if m = k then piece0 t else 0) + (if m + 1 = k then piece1 t else 0) + (if m + 2 = k then piece2 t else 0) + (if m + 3 = k then piece3 t else 0)

/-- The weight among the extended reals, the four conditional pieces apart. -/
theorem weight_coe (m : ℕ) (t : ℝ) (k : ℕ) : ((weight m t k : ℝ) : EReal)
    = (if m = k then (piece0 t : EReal) else 0) + (if m + 1 = k then (piece1 t : EReal) else 0) + (if m + 2 = k then (piece2 t : EReal) else 0)
      + (if m + 3 = k then (piece3 t : EReal) else 0) := by
  unfold weight
  simp only [EReal.coe_add, apply_ite (fun r : ℝ => (r : EReal)), EReal.coe_zero]

/-- The position on the grid of a clipped value. -/
def gridPos (c : ℝ) : ℝ := (c + 1) * 8
/-- The cell of a clipped value, at most the last of the sixteen. -/
def cell (c : ℝ) : ℕ := min ⌊gridPos c⌋₊ 15
/-- The local coordinate of a clipped value. -/
def localPos (c : ℝ) : ℝ := gridPos c - ⌊gridPos c⌋₊

/-- A value from `-1` on lies at a position that is not negative. -/
theorem gridPos_nonneg {c : ℝ} (h : -1 ≤ c) : 0 ≤ gridPos c := by unfold gridPos; linarith
/-- A value up to `1` lies at a position of at most sixteen. -/
theorem gridPos_le {c : ℝ} (h : c ≤ 1) : gridPos c ≤ 16 := by unfold gridPos; linarith
/-- A cell is at most the fifteenth. -/
theorem cell_le (c : ℝ) : cell c ≤ 15 := min_le_right _ _

/-- A position's floor among the integers is its floor among the naturals. -/
theorem floor_gridPos {c : ℝ} (h : -1 ≤ c) : ((⌊gridPos c⌋ : ℤ) : ℝ) = ((⌊gridPos c⌋₊ : ℕ) : ℝ) := by
  rw [← natCast_floor_eq_intCast_floor (gridPos_nonneg h)]
/-- The floor of a position is at most sixteen. -/
theorem floor_le {c : ℝ} (h : c ≤ 1) : ⌊gridPos c⌋₊ ≤ 16 := Nat.floor_le_of_le (by simpa using gridPos_le h)

/-- A value cut to the interval from `-1` to `1`, as a real number. -/
def clipped (v : EReal) : ℝ := (min ((1 : ℝ) : EReal) (max ((-1 : ℝ) : EReal) v)).toReal

/-- The cut of an extended real is the real number `clipped`. -/
theorem clipped_coe (v : EReal) : min ((1 : ℝ) : EReal) (max ((-1 : ℝ) : EReal) v) = (clipped v : EReal) := by
  unfold clipped
  refine (EReal.coe_toReal ?_ ?_).symm
  · exact ne_top_of_le_ne_top (EReal.coe_ne_top 1) (min_le_left _ _)
  · exact ne_bot_of_le_ne_bot (EReal.coe_ne_bot (-1)) (le_min (by exact_mod_cast (by norm_num : (-1 : ℝ) ≤ 1)) (le_max_left _ _))
/-- The cut is at least `-1`. -/
theorem neg_one_le_clipped (v : EReal) : -1 ≤ clipped v := by
  rw [← EReal.coe_le_coe_iff, ← clipped_coe]
  exact le_min (by exact_mod_cast (by norm_num : (-1 : ℝ) ≤ 1)) (le_max_left _ _)
/-- The cut is at most `1`. -/
theorem clipped_le_one (v : EReal) : clipped v ≤ 1 := by
  rw [← EReal.coe_le_coe_iff, ← clipped_coe]
  exact min_le_left _ _

/-- A sum of nineteen terms written out. -/
theorem sum_nineteen (f : Fin 19 → EReal) : ∑ k, f k = f 0 + f 1 + f 2 + f 3 + f 4 + f 5 + f 6 + f 7 + f 8 + f 9 + f 10 + f 11 + f 12 + f 13 + f 14
    + f 15 + f 16 + f 17 + f 18 := by
  simp only [Fin.sum_univ_castSucc, Fin.sum_univ_zero, zero_add]
  rfl

end Cert.Kan

end
-- ==== Proof.KernelSum.lean ====
/- What the kernel's accumulation leaves at one entry: the base value plus nineteen sums over the input features. -/
module

public import proofs.«01_k».proof.Proof.Gen.KernelIdeal.Value
public import proofs.«01_k».proof.Proof.Consts
public import proofs.«01_k».proof.Proof.Spline

@[expose] public section

noncomputable section

namespace Cert.Kan

open Cert.KernelIdeal Cert.KernelIdeal.Gen Idealize.ShloMosaic Idealize.ShloMosaic.TcCoe Idealize.SL.Sem

/-- The kernel's nineteen accumulations from a starting array, for any cell numbers `ci` and any four basis arrays. -/
def accum (base ci v0 v1 v2 v3 : FVec Ideal S4096x128 .f32) (first : FVec Ideal S4096x128 .f32) (w : Vec Ideal S128x19x128 .f32)
    (ss : Vec Ideal S128x128 .f32) : FVec Ideal S4096x128 .f32 :=
  k0_pay1 (k0_pay36 ci v2 v3 ss (k0_pay33 ci v0 v1 v2 v3 ss (k0_pay31 ci v0 v1 v2 v3 ss (k0_pay29 ci v0 v1 v2 v3 ss
    (k0_pay26 ci v0 v1 v2 v3 ss (k0_pay24 ci v0 v1 v2 v3 ss (k0_pay22 ci v0 v1 v2 v3 ss (k0_pay19 ci v0 v1 v2 v3 ss
    (k0_pay17 ci v0 v1 v2 v3 ss (k0_pay15 base ci v0 v1 v2 ss first (View.ld w r0_2) (View.ld w r0_3) (View.ld w r0_4))
      (k0_pay16 ci) (Scalar.ofBits .f32 0x00000000#32) (View.ld w r0_5))
      (k0_pay18 ci v0 v1 v2 v3) (View.ld w r0_6) (View.ld w r0_7))
      (k0_pay20 ci v0 v1) (k0_pay21 ci) (View.ld w r0_8) (View.ld w r0_9))
      (k0_pay23 ci) (Scalar.ofBits .f32 0x00000000#32) (View.ld w r0_10))
      (k0_pay25 ci v0 v1 v2 v3) (View.ld w r0_11) (View.ld w r0_12))
      (k0_pay27 ci v0 v1) (k0_pay28 ci) (View.ld w r0_13) (View.ld w r0_14))
      (k0_pay30 ci) (Scalar.ofBits .f32 0x00000000#32) (View.ld w r0_15))
      (k0_pay32 ci v0 v1 v2 v3) (View.ld w r0_16) (View.ld w r0_17))
      (k0_pay34 ci v1 v2) (k0_pay35 ci) (View.ld w r0_18) (View.ld w r0_19)) (k0_pay37 ci v3 ss (View.ld w r0_20))

open Cert.KernelIdeal.Value in
/-- The kernel's result is `accum` of its base, its cells and its basis arrays. -/
theorem G4_eq_accum (a0 : Vec Ideal S4096x128 .f32) (a1 : Vec Ideal S128x19x128 .f32) (a2 a3 : Vec Ideal S128x128 .f32) :
    G4 (F := Ideal) a0 a1 a2 a3 = accum (k0_pay3 a0 a3) (k0_pay38 a0 a1 a2 a3) (k0_pay42 a0 a1 a2 a3) (k0_pay43 a0 a1 a2 a3)
      (k0_pay44 a0 a1 a2 a3) (k0_pay45 a0 a1 a2 a3) (k0_pay14 (k0_pay38 a0 a1 a2 a3) (k0_pay39 a0 a1 a2 a3) (k0_pay40 a0 a1 a2 a3) (k0_pay41 a0 a1 a2 a3))
      a1 a2 := rfl

set_option maxRecDepth 16384 in
set_option maxHeartbeats 4000000 in
/-- The accumulation at one entry: where the cells are the numbers `m d` of at most fifteen and the basis arrays hold the four pieces at `t d`, every
    column `k` adds the sum over the features of its weight times the scaled coefficient. -/
theorem accum_apply (base ci v0 v1 v2 v3 first : FVec Ideal S4096x128 .f32) (w : Vec Ideal S128x19x128 .f32) (ss : Vec Ideal S128x128 .f32)
    (b : Fin 4096) (o : Fin 128) (m : Fin 128 → ℕ) (t : Fin 128 → ℝ) (hm : ∀ d, m d ≤ 15) (hci : ∀ d, ci (ix2 b d) = ((m d : ℝ) : EReal))
    (h0 : ∀ d, v0 (ix2 b d) = (piece0 (t d) : EReal)) (h1 : ∀ d, v1 (ix2 b d) = (piece1 (t d) : EReal))
    (h2 : ∀ d, v2 (ix2 b d) = (piece2 (t d) : EReal)) (h3 : ∀ d, v3 (ix2 b d) = (piece3 (t d) : EReal))
    (hf : ∀ d, first (ix2 b d) = if m d = 0 then (piece0 (t d) : EReal) else 0) :
    accum base ci v0 v1 v2 v3 first w ss (ix2 b o)
      = base (ix2 b o) + ∑ k : Fin 19, ∑ d : Fin 128, ((weight (m d) (t d) k : ℝ) : EReal) * (w (ix3 d k o) * ss (ix2 d o)) := by
  have h16 : ∀ d, m d ≠ 16 := fun d => by have := hm d; omega
  have h17 : ∀ d, m d ≠ 17 := fun d => by have := hm d; omega
  have h18 : ∀ d, m d ≠ 18 := fun d => by have := hm d; omega
  have e : ∀ (d : Fin 128) (r : ℝ), (ci (ix2 b d) = (r : EReal)) = ((m d : ℝ) = r) := fun d r => by rw [hci, EReal.coe_eq_coe_iff]
  have e0 : ∀ d : Fin 128, (ci (ix2 b d) = 0) = (m d = 0) := fun d => by rw [← EReal.coe_zero, e, Nat.cast_eq_zero]
  have e1 : ∀ d : Fin 128, (ci (ix2 b d) = 1) = (m d = 1) := fun d => by rw [← EReal.coe_one, e, Nat.cast_eq_one]
  have en : ∀ (d : Fin 128) (n : ℕ) [n.AtLeastTwo], (ci (ix2 b d) = ((OfNat.ofNat n : ℝ) : EReal)) = (m d = OfNat.ofNat n) := fun d n _ => by
    rw [e, ← Nat.cast_ofNat (R := ℝ), Nat.cast_inj]
  pointwise [accum, k0_pay1, k0_pay36, k0_pay33, k0_pay31, k0_pay29, k0_pay26, k0_pay24, k0_pay22, k0_pay19, k0_pay17, k0_pay15, k0_pay16,
    k0_pay18, k0_pay20, k0_pay21, k0_pay23, k0_pay25, k0_pay27, k0_pay28, k0_pay30, k0_pay32, k0_pay34, k0_pay35, k0_pay37]
  rw [sum_nineteen]
  simp only [e0, e1, word_2, word_3, word_4, word_5, word_6, word_7, word_8, word_9, word_10, word_11, word_12, word_13, word_14, word_15, en,
    h0, h1, h2, h3, hf, weight_coe, ← add_assoc]
  simp [h16, h17, h18]

end Cert.Kan

end
-- ==== Proof.Norm.lean ====
/- The normalized value of one entry, and the two ways in which the programs compute it. -/
module

public import proofs.«01_k».proof.Proof.Consts

@[expose] public section

noncomputable section

namespace Cert.Kan

open Idealize.ShloMosaic

/-- An entry of a column less the column's mean. -/
def centred (col : Fin 4096 → EReal) (b : Fin 4096) : EReal := col b - (∑ i, col i) * ((1 / 4096 : ℝ) : EReal)

/-- The column's sum of squared differences from its mean. -/
def spread (col : Fin 4096 → EReal) : EReal := ∑ i, centred col i * centred col i

/-- The normalized entry, divided by three. -/
def normVal (col : Fin 4096 → EReal) (b : Fin 4096) : EReal :=
  centred col b * (Ideal.rsqrt (spread col * ((1 / 4096 : ℝ) : EReal) + Ideal.ofBits .f32 0x3727C5AC#32) * ((1 / 3 : ℝ) : EReal))

/-- A product of an extended real with itself is not negative. -/
theorem mul_self_nonneg (a : EReal) : 0 ≤ a * a := by
  induction a using EReal.rec with
  | bot => simp
  | coe r => rw [← EReal.coe_mul]; exact_mod_cast _root_.mul_self_nonneg r
  | top => simp

/-- The sum of squares is not negative. -/
theorem spread_nonneg (col : Fin 4096 → EReal) : 0 ≤ spread col := Finset.sum_nonneg fun i _ => mul_self_nonneg _

/-- Dividing by the square root and then by three is multiplying by a third of the reciprocal root, for any sum of squares that is not negative. -/
theorem div_sqrt (a S : EReal) (hS : 0 ≤ S) :
    Ideal.div (Ideal.div a (Ideal.sqrt (Ideal.div S ((4096 : ℝ) : EReal) + Ideal.ofBits .f32 0x3727C5AC#32))) ((3 : ℝ) : EReal)
      = a * (Ideal.rsqrt (S * ((1 / 4096 : ℝ) : EReal) + Ideal.ofBits .f32 0x3727C5AC#32) * ((1 / 3 : ℝ) : EReal)) := by
  obtain ⟨e, he, hw⟩ := word_eps
  rw [hw, Ideal.div_coe (by norm_num), Ideal.div_coe (by norm_num)]
  induction S using EReal.rec with
  | bot => simp at hS
  | coe r =>
    have hr : 0 ≤ r := by exact_mod_cast hS
    have hv : 0 < r * (1 / 4096) + e := by positivity
    rw [← EReal.coe_mul, ← EReal.coe_add, Ideal.sqrt_coe, Ideal.rsqrt_coe, if_neg hv.not_gt, if_neg hv.not_gt, if_neg hv.ne',
      Ideal.div_coe (Real.sqrt_ne_zero'.2 hv), mul_assoc, one_div (Real.sqrt _)]
  | top =>
    rw [EReal.top_mul_coe_of_pos (by norm_num), EReal.top_add_coe, Ideal.sqrt_top, Ideal.rsqrt_top]
    simp [Ideal.div]

end Cert.Kan

end
-- ==== Proof.KernelNorm.lean ====
/- The kernel's arrays at one entry, up to the accumulation: the normalized value, the base value, the cell and the four pieces. -/
module

public import proofs.«01_k».proof.Proof.KernelSum
public import proofs.«01_k».proof.Proof.Norm

@[expose] public section

noncomputable section

namespace Cert.Kan

open Cert.KernelIdeal Cert.KernelIdeal.Gen Idealize.ShloMosaic Idealize.ShloMosaic.TcCoe Idealize.SL.Sem

/-- The named third. -/
theorem named_third : Named.named (F := Ideal) (φ := .f32) κ "third" 0x3EAAAAAB#32 = ((1 / 3 : ℝ) : EReal) := rfl
/-- The named sixth. -/
theorem named_sixth : Named.named (F := Ideal) (φ := .f32) κ "sixth" 0x3E2AAAAB#32 = ((1 / 6 : ℝ) : EReal) := rfl
/-- The named negative sixth. -/
theorem named_neg_sixth : Named.named (F := Ideal) (φ := .f32) κ "neg_sixth" 0xBE2AAAAB#32 = ((-(1 / 6) : ℝ) : EReal) :=
  (rfl : _ = ((-1 / 6 : ℝ) : EReal)).trans (by norm_num)
/-- The named two thirds. -/
theorem named_two_thirds : Named.named (F := Ideal) (φ := .f32) κ "two_thirds" 0x3F2AAAAB#32 = ((2 / 3 : ℝ) : EReal) := rfl

set_option maxRecDepth 16384 in
/-- The load of a whole array is the array. -/
theorem ld_whole (a : Vec Ideal S4096x128 .f32) : View.ld a r0_0 = a := by
  funext i
  idx_vars i
  pointwise

set_option maxRecDepth 16384 in
/-- The kernel's normalized value. -/
theorem pay2_apply (x : Vec Ideal S4096x128 .f32) (b : Fin 4096) (d : Fin 128) :
    k0_pay2 x (ix2 b d) = normVal (fun i => x (ix2 i d)) b := by
  pointwise [k0_pay2]
  rw [named_third, word_inv_4096]
  rfl

set_option maxRecDepth 16384 in
/-- The kernel's base value: the sum over the features of the gated normalized value times the base weight. -/
theorem pay3_apply (x : Vec Ideal S4096x128 .f32) (bs : Vec Ideal S128x128 .f32) (b : Fin 4096) (o : Fin 128) :
    k0_pay3 x bs (ix2 b o)
      = ∑ d : Fin 128, normVal (fun i => x (ix2 i d)) b * Ideal.div 1 (1 + Ideal.exp (-normVal (fun i => x (ix2 i d)) b)) * bs (ix2 d o) := by
  pointwise [k0_pay3]
  simp only [pay2_apply, Ideal.logistic]

/-- The clipped normalized value of one entry. -/
abbrev clipAt (x : Vec Ideal S4096x128 .f32) (b : Fin 4096) (d : Fin 128) : ℝ := clipped (normVal (fun i => x (ix2 i d)) b)

set_option maxRecDepth 16384 in
/-- The kernel's position on the grid. -/
theorem pay4_apply (x : Vec Ideal S4096x128 .f32) (b : Fin 4096) (d : Fin 128) : k0_pay4 x (ix2 b d) = (gridPos (clipAt x b d) : EReal) := by
  pointwise [k0_pay4]
  rw [← EReal.coe_one, word_neg_one, word_8, clipped_coe, pay2_apply]
  unfold gridPos
  rw [EReal.coe_mul, EReal.coe_add]

set_option maxRecDepth 16384 in
/-- The floor of the kernel's position. -/
theorem pay5_apply (x : Vec Ideal S4096x128 .f32) (b : Fin 4096) (d : Fin 128) :
    k0_pay5 x (ix2 b d) = (((⌊gridPos (clipAt x b d)⌋₊ : ℕ) : ℝ) : EReal) := by
  pointwise [k0_pay5]
  rw [pay4_apply, Ideal.liftRound_coe, floor_gridPos (neg_one_le_clipped _)]

set_option maxRecDepth 16384 in
/-- The kernel's cell. -/
theorem pay6_apply (x : Vec Ideal S4096x128 .f32) (b : Fin 4096) (d : Fin 128) : k0_pay6 x (ix2 b d) = ((cell (clipAt x b d) : ℝ) : EReal) := by
  pointwise [k0_pay6]
  rw [pay5_apply, word_15]
  refine (EReal.coe_strictMono.monotone.map_min).symm.trans ?_
  unfold cell
  rw [Nat.cast_min]
  rfl

set_option maxRecDepth 16384 in
/-- The kernel's local coordinate. -/
theorem pay7_apply (x : Vec Ideal S4096x128 .f32) (b : Fin 4096) (d : Fin 128) : k0_pay7 x (ix2 b d) = (localPos (clipAt x b d) : EReal) := by
  pointwise [k0_pay7]
  rw [pay4_apply, pay5_apply, ← EReal.coe_sub]
  rfl

set_option maxRecDepth 16384 in
/-- The kernel's first piece. -/
theorem pay10_apply (x : Vec Ideal S4096x128 .f32) (b : Fin 4096) (d : Fin 128) :
    k0_pay10 (k0_pay7 x) (k0_pay8 x) k0_pay9 (ix2 b d) = (piece0 (localPos (clipAt x b d)) : EReal) := by
  pointwise [k0_pay10, k0_pay8, k0_pay9]
  rw [pay7_apply, named_neg_sixth, named_sixth, word_half, word_neg_half]
  simp only [← EReal.coe_mul, ← EReal.coe_add, piece0, sub_eq_add_neg]

set_option maxRecDepth 16384 in
/-- The kernel's second piece. -/
theorem pay11_apply (x : Vec Ideal S4096x128 .f32) (b : Fin 4096) (d : Fin 128) :
    k0_pay11 (k0_pay7 x) (ix2 b d) = (piece1 (localPos (clipAt x b d)) : EReal) := by
  pointwise [k0_pay11]
  rw [pay7_apply, named_two_thirds, word_half, word_neg_one]
  simp only [← EReal.coe_mul, ← EReal.coe_add, piece1, sub_eq_add_neg]

set_option maxRecDepth 16384 in
/-- The kernel's third piece. -/
theorem pay12_apply (x : Vec Ideal S4096x128 .f32) (b : Fin 4096) (d : Fin 128) :
    k0_pay12 (k0_pay7 x) (ix2 b d) = (piece2 (localPos (clipAt x b d)) : EReal) := by
  pointwise [k0_pay12]
  rw [pay7_apply, named_sixth, word_half, word_neg_half]
  simp only [← EReal.coe_mul, ← EReal.coe_add, piece2]

set_option maxRecDepth 16384 in
/-- The kernel's fourth piece. -/
theorem pay13_apply (x : Vec Ideal S4096x128 .f32) (b : Fin 4096) (d : Fin 128) :
    k0_pay13 (k0_pay7 x) (ix2 b d) = (piece3 (localPos (clipAt x b d)) : EReal) := by
  pointwise [k0_pay13]
  rw [pay7_apply, named_sixth]
  simp only [← EReal.coe_mul, ← EReal.coe_add, piece3]

set_option maxRecDepth 16384 in
/-- The first column's array: the first piece in cell zero. -/
theorem pay14_apply (x : Vec Ideal S4096x128 .f32) (b : Fin 4096) (d : Fin 128) :
    k0_pay14 (k0_pay6 x) (k0_pay7 x) (k0_pay8 x) k0_pay9 (ix2 b d)
      = if cell (clipAt x b d) = 0 then (piece0 (localPos (clipAt x b d)) : EReal) else 0 := by
  pointwise [k0_pay14]
  rw [pay6_apply, pay10_apply, ← EReal.coe_zero]
  simp only [EReal.coe_eq_coe_iff, Nat.cast_eq_zero]

open Cert.KernelIdeal.Value in
/-- The kernel's result at one entry: the base value plus, for every column of the table, the sum over the features of the weight times the scaled coefficient. -/
theorem G4_apply (x : Vec Ideal S4096x128 .f32) (w : Vec Ideal S128x19x128 .f32) (ss bs : Vec Ideal S128x128 .f32) (b : Fin 4096) (o : Fin 128) :
    G4 (F := Ideal) x w ss bs (ix2 b o)
      = ∑ d : Fin 128, normVal (fun i => x (ix2 i d)) b * Ideal.div 1 (1 + Ideal.exp (-normVal (fun i => x (ix2 i d)) b)) * bs (ix2 d o)
        + ∑ k : Fin 19, ∑ d : Fin 128, ((weight (cell (clipAt x b d)) (localPos (clipAt x b d)) k : ℝ) : EReal) * (w (ix3 d k o) * ss (ix2 d o)) := by
  rw [G4_eq_accum]
  simp only [k0_pay45, k0_pay44, k0_pay43, k0_pay42, k0_pay41, k0_pay40, k0_pay39, k0_pay38, ld_whole]
  rw [accum_apply _ _ _ _ _ _ _ w ss b o (fun d => cell (clipAt x b d)) (fun d => localPos (clipAt x b d)) (fun d => cell_le _) (pay6_apply x b)
    (pay10_apply x b) (pay11_apply x b) (pay12_apply x b) (pay13_apply x b) (pay14_apply x b), pay3_apply]

end Cert.Kan

end
-- ==== Proof.RefArrays.lean ====
/- The reference's arrays, named stage by stage as functions of the four arguments, and the equation of the reference's
   result term with the last stage. -/
module

public import proofs.«01_k».proof.Proof.Gen.ReferenceIdeal.Run
public import Idealize.ShloMosaic.Lib.Pointwise

@[expose] public section

noncomputable section

namespace Cert.Kan

open Cert.ReferenceIdeal Cert.ReferenceIdeal.Gen Idealize.ShloMosaic Idealize.ShloMosaic.TcCoe Idealize.SL.Sem

/-- The rows less their column means. -/
def refCentred (x : FVec Ideal S4096x128 .f32) : FVec Ideal S4096x128 .f32 :=
  subf x (broadcastInDim S4096x128 ![0, 1] bcast_S1x128_S4096x128_0_1 (Host.divf (broadcastInDim S1x128 ![1] bcast_S128_S1x128_1
    (Host.reduceAdd x (constant S_ .f32 0x00000000#32) reducesTo_S4096x128_S128_d0 h_S_)) (broadcastInDim S1x128 ![] bcast_S_S1x128 (constant S_ .f32 0x45800000#32))))

/-- The column variances, with the guard on the divisor that the variance is printed with. -/
def refVar (xc : FVec Ideal S4096x128 .f32) : FVec Ideal S1x128 .f32 :=
  select (broadcastInDim S1x128 ![] bcast_S_S1x128 (cmpf .ogt (subf (constant S_ .f32 0x45800000#32) (sitofp .f32 (constantI S_ 32 0#32)) : FVec Ideal S_ .f32)
      (constant S_ .f32 0x00000000#32)))
    (Host.divf (broadcastInDim S1x128 ![1] bcast_S128_S1x128_1 (Host.reduceAdd (mulf xc xc) (constant S_ .f32 0x00000000#32) reducesTo_S4096x128_S128_d0 h_S_))
      (broadcastInDim S1x128 ![] bcast_S_S1x128 (subf (constant S_ .f32 0x45800000#32) (sitofp .f32 (constantI S_ 32 0#32)))))
    (broadcastInDim S1x128 ![] bcast_S_S1x128 (id (constant S_ .f32 0x7FC00000#32)))

/-- The normalized rows divided by three. -/
def refNorm (x : FVec Ideal S4096x128 .f32) : FVec Ideal S4096x128 .f32 :=
  Host.divf (Host.divf (refCentred x) (broadcastInDim S4096x128 ![0, 1] bcast_S1x128_S4096x128_0_1
      (Host.sqrt (addf (refVar (refCentred x)) (broadcastInDim S1x128 ![] bcast_S_S1x128 (constant S_ .f32 0x3727C5AC#32))))))
    (broadcastInDim S4096x128 ![] bcast_S_S4096x128 (constant S_ .f32 0x40400000#32))

/-- The clipped values as one vector, plus one. -/
def refFlat (xn : FVec Ideal S4096x128 .f32) : FVec Ideal S524288 .f32 :=
  addf (shapeCast S524288 (minimumf (broadcastInDim S4096x128 ![] bcast_S_S4096x128 (id (constant S_ .f32 0x3F800000#32)))
      (maximumf (broadcastInDim S4096x128 ![] bcast_S_S4096x128 (id (constant S_ .f32 0xBF800000#32))) xn)) shapeCasts_S4096x128_S524288)
    (broadcastInDim S524288 ![] bcast_S_S524288 (constant S_ .f32 0x3F800000#32))

/-- The remainder by the interval length before the correction of its sign. -/
def refRem (u : FVec Ideal S524288 .f32) : FVec Ideal S524288 .f32 :=
  Host.remf u (broadcastInDim S524288 ![] bcast_S_S524288 (id (constant S_ .f32 0x3E000000#32)))

/-- The remainder with the sign of the divisor. -/
def refMod (r : FVec Ideal S524288 .f32) : FVec Ideal S524288 .f32 :=
  select (andi (cmpi .ne (cmpf .olt r (broadcastInDim S524288 ![] bcast_S_S524288 (constant S_ .f32 0x00000000#32)))
      (broadcastInDim S524288 ![] bcast_S_S524288 (cmpf .olt (id (constant S_ .f32 0x3E000000#32) : FVec Ideal S_ .f32) (constant S_ .f32 0x00000000#32))))
      (cmpf .une r (broadcastInDim S524288 ![] bcast_S_S524288 (constant S_ .f32 0x00000000#32))))
    (addf r (broadcastInDim S524288 ![] bcast_S_S524288 (id (constant S_ .f32 0x3E000000#32)))) r

/-- The local coordinate within an interval, as a column. -/
def refLocal (u : FVec Ideal S524288 .f32) : FVec Ideal S524288x1 .f32 :=
  broadcastInDim S524288x1 ![0] bcast_S524288_S524288x1_0
    (Host.divf (refMod (refRem u)) (broadcastInDim S524288 ![] bcast_S_S524288 (constant S_ .f32 0x3E000000#32)))

/-- The powers of the local coordinate, the highest first. -/
def refPowers (t : FVec Ideal S524288x1 .f32) : FVec Ideal S524288x4 .f32 :=
  concatenate S524288x4 1 [⟨S524288x1, mulf (mulf t t) t⟩, ⟨S524288x1, mulf t t⟩, ⟨S524288x1, t⟩,
    ⟨S524288x1, (broadcastInDim S524288x1 ![] bcast_S_S524288x1 (constant S_ .f32 0x3F800000#32) : FVec Ideal S524288x1 .f32)⟩]
    concatenates_S524288x1_S524288x1_S524288x1_S524288x1_S524288x4_d1

/-- The matrix of the cubic basis. -/
def refMatrix : FVec Ideal S4x4 .f32 :=
  Host.divf (fun i => FloatOps.ofBits .f32 (lit0 (S4x4.rowMajor i))) (broadcastInDim S4x4 ![] bcast_S_S4x4 (constant S_ .f32 0x40C00000#32))

/-- The four basis values at every entry. -/
def refBasis (t : FVec Ideal S524288x1 .f32) : FVec Ideal S524288x1x4 .f32 :=
  Host.dotGeneral dot_S524288x1x4_S4x4_S524288x1x4_2_0_01_1_n_n none
    (broadcastInDim S524288x1x4 ![0, 2] bcast_S524288x4_S524288x1x4_0_2 (refPowers t)) refMatrix

/-- The interval of every entry, at most the last. -/
def refCell (u : FVec Ideal S524288 .f32) : IVec S524288 32 :=
  minsi (fptosi 32 (Host.floor (Host.divf u (broadcastInDim S524288 ![] bcast_S_S524288 (constant S_ .f32 0x3E000000#32)))))
    (broadcastInDim S524288 ![] bcast_S_S524288 (constantI S_ 32 15#32))

/-- The column that each of the four basis values of an entry goes to, before the wrap of negative positions. -/
def refColumn (ci : IVec S524288 32) : IVec S2097152 32 :=
  addi (shapeCast S2097152 (broadcastInDim S524288x4 ![0] bcast_S524288_S524288x4_0 ci) shapeCasts_S524288x4_S2097152)
    (shapeCast S2097152 (broadcastInDim S524288x4 ![0, 1] bcast_S1x4_S524288x4_0_1 (shapeCast S1x4 (iotaInDim S4 32 0) shapeCasts_S4_S1x4))
      shapeCasts_S524288x4_S2097152)

/-- The pairs of positions that the scatter writes at. -/
def refPairs (y : IVec S2097152 32) : IVec S2097152x2 32 :=
  concatenate S2097152x2 1 [⟨S2097152x1, (broadcastInDim S2097152x1 ![0] bcast_S2097152_S2097152x1_0
      (select (cmpi .slt (iotaInDim S2097152 32 0) (broadcastInDim S2097152 ![] bcast_S_S2097152 (constantI S_ 32 0#32)))
        (addi (iotaInDim S2097152 32 0) (broadcastInDim S2097152 ![] bcast_S_S2097152 (constantI S_ 32 2097152#32))) (iotaInDim S2097152 32 0)) : IVec S2097152x1 32)⟩,
    ⟨S2097152x1, (broadcastInDim S2097152x1 ![0] bcast_S2097152_S2097152x1_0
      (select (cmpi .slt y (broadcastInDim S2097152 ![] bcast_S_S2097152 (constantI S_ 32 0#32)))
        (addi y (broadcastInDim S2097152 ![] bcast_S_S2097152 (constantI S_ 32 19#32))) y) : IVec S2097152x1 32)⟩]
    concatenates_S2097152x1_S2097152x1_S2097152x2_d1

/-- The table of ones at the written positions and zeros elsewhere. -/
def refHot (pairs : IVec S2097152x2 32) : FVec Ideal S2097152x19 .f32 :=
  Host.scatter scatter_S2097152x19_S2097152x2_S2097152_n_01_01_1 (fun _ b => b) (broadcastInDim S2097152x19 ![] bcast_S_S2097152x19 (constant S_ .f32 0x00000000#32))
    pairs (broadcastInDim S2097152 ![] bcast_S_S2097152 (constant S_ .f32 0x3F800000#32))

/-- The basis values of every entry spread over the nineteen columns. -/
def refSpread (bas : FVec Ideal S524288x1x4 .f32) (hot : FVec Ideal S2097152x19 .f32) : FVec Ideal S4096x2432 .f32 :=
  shapeCast S4096x2432 (shapeCast S4096x128x19 (Host.dotGeneral dot_S524288x1x4_S524288x4x19_S524288x1x19_2_1_1_2_0_0 none bas
    (shapeCast S524288x4x19 hot shapeCasts_S2097152x19_S524288x4x19)) shapeCasts_S524288x1x19_S4096x128x19) shapeCasts_S4096x128x19_S4096x2432

/-- The scaled coefficients as a matrix. -/
def refCoef (w : FVec Ideal S128x19x128 .f32) (ss : FVec Ideal S128x128 .f32) : FVec Ideal S2432x128 .f32 :=
  shapeCast S2432x128 (mulf w (broadcastInDim S128x19x128 ![0, 1, 2] bcast_S128x1x128_S128x19x128_0_1_2
    (broadcastInDim S128x1x128 ![0, 2] bcast_S128x128_S128x1x128_0_2 ss))) shapeCasts_S128x19x128_S2432x128

/-- The base branch. -/
def refBase (xn : FVec Ideal S4096x128 .f32) (bs : FVec Ideal S128x128 .f32) : FVec Ideal S4096x128 .f32 :=
  Host.dotGeneral dot_S4096x128_S128x128_S4096x128_1_0_0_1_n_n none
    (mulf xn (Host.divf (broadcastInDim S4096x128 ![] bcast_S_S4096x128 (constant S_ .f32 0x3F800000#32))
      (addf (broadcastInDim S4096x128 ![] bcast_S_S4096x128 (constant S_ .f32 0x3F800000#32)) (Host.exp (Host.negf xn))))) bs

/-- The spread table of the clipped values. -/
def refTable (u : FVec Ideal S524288 .f32) : FVec Ideal S4096x2432 .f32 :=
  refSpread (refBasis (refLocal u)) (refHot (refPairs (refColumn (refCell u))))

/-- The reference's result. -/
def refOut (x : FVec Ideal S4096x128 .f32) (w : FVec Ideal S128x19x128 .f32) (ss bs : FVec Ideal S128x128 .f32) : FVec Ideal S4096x128 .f32 :=
  addf (Host.dotGeneral dot_S4096x2432_S2432x128_S4096x128_1_0_0_1_n_n none (refTable (refFlat (refNorm x))) (refCoef w ss)) (refBase (refNorm x) bs)

set_option maxRecDepth 16384 in
set_option maxHeartbeats 4000000 in
/-- The reference's composed term is `refOut` of the four arguments. -/
theorem res_eq_refOut (m : (ℓ : Loc nD τ sig) → Buf (Elt Ideal) ℓ) (c : Dev nD) :
    Cert.ReferenceIdeal.Value.res_main_v74 (F := Ideal) m c
      = refOut (m ((c.tc : Thread nD τ).loc main_arg0)) (m ((c.tc : Thread nD τ).loc main_arg1)) (m ((c.tc : Thread nD τ).loc main_arg2))
          (m ((c.tc : Thread nD τ).loc main_arg3)) := by
  unfold Cert.ReferenceIdeal.Value.res_main_v74
  generalize m ((c.tc : Thread nD τ).loc main_arg0) = x
  generalize m ((c.tc : Thread nD τ).loc main_arg1) = w
  generalize m ((c.tc : Thread nD τ).loc main_arg2) = ss
  generalize m ((c.tc : Thread nD τ).loc main_arg3) = bs
  rfl

end Cert.Kan

end
-- ==== Proof.RefNorm.lean ====
/- The reference's normalized value, base value and local quantities at one entry. -/
module

public import proofs.«01_k».proof.Proof.RefArrays
public import proofs.«01_k».proof.Proof.Norm
public import proofs.«01_k».proof.Proof.Spline

@[expose] public section

noncomputable section

namespace Cert.Kan

open Cert.ReferenceIdeal Cert.ReferenceIdeal.Gen Idealize.ShloMosaic Idealize.ShloMosaic.TcCoe Idealize.SL.Sem

set_option maxRecDepth 16384 in
/-- The reference's centred value. -/
theorem refCentred_apply (x : FVec Ideal S4096x128 .f32) (b : Fin 4096) (d : Fin 128) :
    refCentred x (ix2 b d) = centred (fun i => x (ix2 i d)) b := by
  pointwise [refCentred]
  rw [word_4096, Ideal.div_coe (by norm_num)]
  rfl

/-- The integer zero as a float. -/
theorem sitofp_zero : FloatOps.sitofp (F := Ideal) .f32 (0#32) = ((0 : ℝ) : EReal) := by
  show (((0#32 : BitVec 32).toInt : ℝ) : EReal) = _
  norm_num

set_option maxRecDepth 16384 in
/-- The reference's variance: the guard on its divisor holds. -/
theorem refVar_apply (xc : FVec Ideal S4096x128 .f32) (d : Fin 128) :
    refVar xc (ix2 0 d) = Ideal.div (∑ i : Fin 4096, xc (ix2 i d) * xc (ix2 i d)) ((4096 : ℝ) : EReal) := by
  pointwise [refVar]
  rw [word_4096, sitofp_zero, ← EReal.coe_sub, if_pos (by exact_mod_cast (by norm_num : (0 : ℝ) < 4096 - 0)), sub_zero]

set_option maxRecDepth 16384 in
/-- The reference's normalized value is the kernel's. -/
theorem refNorm_apply (x : FVec Ideal S4096x128 .f32) (b : Fin 4096) (d : Fin 128) : refNorm x (ix2 b d) = normVal (fun i => x (ix2 i d)) b := by
  pointwise [refNorm]
  simp only [refVar_apply, refCentred_apply]
  rw [word_3]
  exact div_sqrt _ _ (spread_nonneg _)

set_option maxRecDepth 16384 in
/-- The reference's base value. -/
theorem refBase_apply (xn : FVec Ideal S4096x128 .f32) (bs : FVec Ideal S128x128 .f32) (b : Fin 4096) (o : Fin 128) :
    refBase xn bs (ix2 b o) = ∑ d : Fin 128, xn (ix2 b d) * Ideal.div 1 (1 + Ideal.exp (-xn (ix2 b d))) * bs (ix2 d o) := by
  pointwise [refBase]

set_option maxRecDepth 16384 in
/-- The flat clipped value plus one, at the flat position of row `b` and feature `d`. -/
theorem refFlat_apply (xn : FVec Ideal S4096x128 .f32) (b : Fin 4096) (d : Fin 128) (n : Fin 524288) (hn : n.val = b.val * 128 + d.val) :
    refFlat xn (ix1 n) = ((clipped (xn (ix2 b d)) + 1 : ℝ) : EReal) := by
  have hb : (⟨n.val / 128, by omega⟩ : Fin 4096) = b := Fin.ext (by show n.val / 128 = b.val; omega)
  have hd : (⟨n.val % 128, by omega⟩ : Fin 128) = d := Fin.ext (by show n.val % 128 = d.val; omega)
  pointwise [refFlat]
  rw [hb, hd]
  show min (Ideal.ofBits .f32 0x3F800000#32) (max (Ideal.ofBits .f32 0xBF800000#32) (xn (ix2 b d))) + 1 = _
  rw [word_one, word_neg_one, clipped_coe, ← EReal.coe_one, ← EReal.coe_add]

/-- A selection whose condition asks that two false comparisons differ takes its second value. -/
theorem select_same (z : BitVec 1) (a b : EReal) :
    Scalar.select (IntOp.andi (IntOp.cmpi .ne (BitVec.ofBool false) (BitVec.ofBool false)) z) a b = b := by
  have h : IntOp.andi (IntOp.cmpi .ne (BitVec.ofBool false) (BitVec.ofBool false)) z = 0#1 := by
    show 0#1 &&& z = 0#1
    exact BitVec.zero_and
  rw [h]
  rfl

/-- The remainder of a position by the interval length is an eighth of the local coordinate. -/
theorem remf_eighth {c : ℝ} (h : -1 ≤ c) : Ideal.remf ((c + 1 : ℝ) : EReal) ((1 / 8 : ℝ) : EReal) = ((localPos c / 8 : ℝ) : EReal) := by
  have e : (c + 1) / (1 / 8) = gridPos c := by unfold gridPos; ring
  rw [Ideal.remf_coe, if_neg (by norm_num), e, Ideal.truncInt, if_pos (gridPos_nonneg h), floor_gridPos h]
  congr 1
  unfold localPos gridPos
  ring

/-- The local coordinate is not negative. -/
theorem localPos_nonneg {c : ℝ} (h : -1 ≤ c) : 0 ≤ localPos c := sub_nonneg.2 (Nat.floor_le (gridPos_nonneg h))

set_option maxRecDepth 16384 in
/-- The reference's local coordinate. -/
theorem refLocal_apply (u : FVec Ideal S524288 .f32) (n : Fin 524288) (c : ℝ) (h : -1 ≤ c) (hu : u (ix1 n) = ((c + 1 : ℝ) : EReal)) :
    refLocal u (ix2 n 0) = (localPos c : EReal) := by
  have hneg : ¬ ((localPos c / 8 : ℝ) : EReal) < 0 := by
    rw [← EReal.coe_zero, EReal.coe_lt_coe_iff, not_lt]
    exact div_nonneg (localPos_nonneg h) (by norm_num)
  have he : ¬ ((1 / 8 : ℝ) : EReal) < 0 := by
    rw [← EReal.coe_zero, EReal.coe_lt_coe_iff]
    norm_num
  have hid : id (constant (F := Ideal) S_ .f32 0x3E000000#32) ix0 = ((1 / 8 : ℝ) : EReal) := word_eighth
  pointwise [refLocal, refMod, refRem]
  rw [hu, hid, word_eighth, remf_eighth h, decide_eq_false hneg, decide_eq_false he, select_same, Ideal.div_coe (by norm_num), ← EReal.coe_mul]
  congr 1
  ring

/-- A small natural number cut at fifteen as a signed word. -/
theorem minsi_fifteen (k : ℕ) (hk : k ≤ 16) : IntOp.minsi (BitVec.ofNat 32 k) 15#32 = BitVec.ofNat 32 (min k 15) := by
  interval_cases k <;> rfl

/-- A small natural number converted to a word. -/
theorem fptosi_nat (k : ℕ) (hk : k ≤ 16) : FloatOps.fptosi (F := Ideal) (φ := .f32) 32 (((k : ℕ) : ℝ) : EReal) = BitVec.ofNat 32 k := by
  show Ideal.fptosi 32 _ = _
  rw [Ideal.fptosi, Ideal.toIntClamped_coe, if_pos (Nat.cast_nonneg k), Int.floor_natCast]
  have : max (-((2 ^ (32 - 1) : ℕ) : ℤ)) (min (((2 ^ (32 - 1) : ℕ) : ℤ) - 1) (k : ℤ)) = (k : ℤ) := by norm_num; omega
  rw [this, BitVec.ofInt_natCast]

set_option maxRecDepth 16384 in
/-- The reference's cell. -/
theorem refCell_apply (u : FVec Ideal S524288 .f32) (n : Fin 524288) (c : ℝ) (h : -1 ≤ c) (h' : c ≤ 1) (hu : u (ix1 n) = ((c + 1 : ℝ) : EReal)) :
    refCell u (ix1 n) = BitVec.ofNat 32 (cell c) := by
  have e : (c + 1) * (1 / (1 / 8)) = gridPos c := by unfold gridPos; ring
  pointwise [refCell]
  rw [hu, word_eighth, Ideal.div_coe (by norm_num), ← EReal.coe_mul, e, Ideal.liftRound_coe, floor_gridPos h, fptosi_nat _ (floor_le h'),
    minsi_fifteen _ (floor_le h')]
  rfl

end Cert.Kan

end
-- ==== Proof.RefTable.lean ====
/- The reference's table of weights at one entry: the basis values, the scatter of ones, and their contraction. -/
module

public import proofs.«01_k».proof.Proof.RefNorm
public import Idealize.ShloMosaic.Lib.Routing.OpsPair
public import Idealize.ShloMosaic.Lib.Routing.OpsSet

@[expose] public section

noncomputable section

namespace Cert.Kan

open Cert.ReferenceIdeal Cert.ReferenceIdeal.Gen Idealize.ShloMosaic Idealize.ShloMosaic.TcCoe Idealize.SL.Sem

/-- The words of the basis matrix, read by row and column. -/
theorem lit_apply (i j : Fin 4) : lit0 (S4x4.rowMajor (ix2 i j))
    = (![![0xBF800000#32, 0x40400000#32, 0xC0400000#32, 0x3F800000#32], ![0x40400000#32, 0xC0C00000#32, 0x40400000#32, 0x00000000#32],
        ![0xC0400000#32, 0x00000000#32, 0x40400000#32, 0x00000000#32], ![0x3F800000#32, 0x40800000#32, 0x3F800000#32, 0x00000000#32]] : Fin 4 → Fin 4 → BitVec 32) i j := by
  revert i j
  decide

/-- The piece that a column of the basis matrix makes. -/
def piece (j : Fin 4) : ℝ → ℝ := ![piece0, piece1, piece2, piece3] j

set_option maxRecDepth 16384 in
/-- The reference's basis values are the four pieces at the local coordinate. -/
theorem refBasis_apply (t : FVec Ideal S524288x1 .f32) (n : Fin 524288) (τ : ℝ) (ht : t (ix2 n 0) = (τ : EReal)) (j : Fin 4) :
    refBasis t (ix3 n 0 j) = (piece j τ : EReal) := by
  have hd : ∀ r : ℝ, Ideal.div (r : EReal) ((6 : ℝ) : EReal) = ((r * (1 / 6) : ℝ) : EReal) := fun r => by
    rw [Ideal.div_coe (by norm_num), ← EReal.coe_mul]
  pointwise [refBasis, refPowers, refMatrix]
  simp only [lit_apply, Fin.sum_univ_four, word_6]
  fin_cases j <;> simp [ht] <;>
    simp only [word_3, word_neg_3, word_neg_6, word_4, ← EReal.coe_one, ← EReal.coe_zero, word_neg_one, hd, ← EReal.coe_mul, ← EReal.coe_add] <;>
    congr 1 <;> simp [piece, piece0, piece1, piece2, piece3] <;> ring

/-- The scatter's start on a result axis is the index word of that axis in the update's row. -/
theorem hot_start (n : Fin 2097152) (q : Fin 2) (idx : IVec S2097152x2 32) :
    scatter_S2097152x19_S2097152x2_S2097152_n_01_01_1.start (ix1 n) idx q = (idx (ix2 n q)).toInt := by
  fin_cases q
  · unfold ScatterDims.start
    rw [dif_pos (by decide)]
    congr 2
    funext a
    fin_cases a <;> rfl
  · unfold ScatterDims.start
    rw [dif_pos (by decide)]
    congr 2
    funext a
    fin_cases a <;> rfl

/-- The scatter's updates are single entries: their window offset is zero. -/
theorem hot_window (n : Fin 2097152) (q : Fin 2) :
    scatter_S2097152x19_S2097152x2_S2097152_n_01_01_1.window (ix1 n) q = 0 := by
  fin_cases q
  · unfold ScatterDims.window
    rw [dif_neg (by decide)]
  · unfold ScatterDims.window
    rw [dif_neg (by decide)]

/-- Where update `n` of the scatter lands. -/
theorem hot_lands (n r : Fin 2097152) (k : Fin 19) (idx : IVec S2097152x2 32) :
    scatter_S2097152x19_S2097152x2_S2097152_n_01_01_1.resultIdx? (ix1 n) idx = some (ix2 r k)
      ↔ (idx (ix2 n 0)).toInt = (r.val : ℤ) ∧ (idx (ix2 n 1)).toInt = (k.val : ℤ) := by
  rw [Routing.resultIdx?_eq_some]
  have e : ∀ q : Fin 2, scatter_S2097152x19_S2097152x2_S2097152_n_01_01_1.start (ix1 n) idx q
      + (scatter_S2097152x19_S2097152x2_S2097152_n_01_01_1.window (ix1 n) q : ℤ) = (idx (ix2 n q)).toInt := fun q => by
    rw [hot_start, hot_window, Nat.cast_zero, add_zero]
  constructor
  · intro h
    exact ⟨(e 0).symm.trans (h 0), (e 1).symm.trans (h 1)⟩
  · rintro ⟨h0, h1⟩ a
    fin_cases a
    · exact (e 0).trans h0
    · exact (e 1).trans h1

/-- The scatter of ones: a row's entry is one at the row's column and zero elsewhere. -/
theorem refHot_apply (idx : IVec S2097152x2 32) (r : Fin 2097152) (k : Fin 19) (m : ℕ) (h0 : ∀ n : Fin 2097152, (idx (ix2 n 0)).toInt = (n.val : ℤ))
    (h1 : (idx (ix2 r 1)).toInt = (m : ℤ)) : refHot idx (ix2 r k) = if m = k.val then 1 else 0 := by
  unfold refHot
  split_ifs with h
  · refine Routing.scatter_set_hit _ _ _ _ (ix2 r k) 1 (fun n _ => ?_) (ix1 r) ((hot_lands r r k idx).2 ⟨h0 r, by rw [h1, h]⟩)
    exact word_one.trans EReal.coe_one
  · refine (Routing.scatter_set_miss _ _ _ _ (ix2 r k) (fun n hn => ?_)).trans (Ideal.ofBits_zero_f32)
    idx_vars n
    obtain ⟨a, b⟩ := (hot_lands _ r k idx).1 hn
    rw [h0] at a
    have a' := Fin.ext (Int.ofNat.inj a)
    subst a'
    rw [h1] at b
    exact h (Int.ofNat.inj b)

/-- A word below half the range is not moved by the wrap of negative indices. -/
theorem wrap_small (k : ℕ) (hk : k < 2 ^ 31) (a : BitVec 32) :
    (Scalar.select (IntOp.cmpi .slt (BitVec.ofNat 32 k) 0#32) a (BitVec.ofNat 32 k)).toInt = (k : ℤ) := by
  have e : (BitVec.ofNat 32 k).toNat = k := by rw [BitVec.toNat_ofNat]; omega
  rw [Routing.wrap_of_lt _ _ (by rw [e]; exact hk), BitVec.toInt_eq_toNat_of_lt (by rw [e]; omega), e]

set_option maxRecDepth 16384 in
/-- The first index of a pair is its own row. -/
theorem refPairs_row (y : IVec S2097152 32) (n : Fin 2097152) : (refPairs y (ix2 n 0)).toInt = (n.val : ℤ) := by
  pointwise [refPairs]
  exact wrap_small n.val (by omega) _

set_option maxRecDepth 16384 in
/-- The second index of a pair is its row's column. -/
theorem refPairs_col (y : IVec S2097152 32) (n : Fin 2097152) (k : ℕ) (hk : k < 2 ^ 31) (hy : y (ix1 n) = BitVec.ofNat 32 k) :
    (refPairs y (ix2 n 1)).toInt = (k : ℤ) := by
  pointwise [refPairs]
  rw [hy]
  exact wrap_small k hk _

set_option maxRecDepth 16384 in
/-- The column of the `j`-th piece at a position: its cell plus `j`. -/
theorem refColumn_apply (ci : IVec S524288 32) (n : Fin 524288) (j : Fin 4) (r : Fin 2097152) (hr : r.val = n.val * 4 + j.val) (k : ℕ)
    (hc : ci (ix1 n) = BitVec.ofNat 32 k) : refColumn ci (ix1 r) = BitVec.ofNat 32 (k + j.val) := by
  have hn : (⟨r.val / 4, by omega⟩ : Fin 524288) = n := Fin.ext (by show r.val / 4 = n.val; omega)
  have hj : r.val % 4 = j.val := by omega
  pointwise [refColumn]
  rw [hn, hj, hc, BitVec.ofNat_add]
  rfl

set_option maxRecDepth 16384 in
/-- The table of weights at row `b`, feature `d` and basis function `k`. -/
theorem refTable_apply (u : FVec Ideal S524288 .f32) (b : Fin 4096) (d : Fin 128) (k : Fin 19) (p : Fin 2432) (hp : p.val = d.val * 19 + k.val) (c : ℝ)
    (h : -1 ≤ c) (h' : c ≤ 1) (hu : ∀ n : Fin 524288, n.val = b.val * 128 + d.val → u (ix1 n) = ((c + 1 : ℝ) : EReal)) :
    refTable u (ix2 b p) = (weight (cell c) (localPos c) k : EReal) := by
  have hn : (⟨b.val * 128 + p.val / 19, by omega⟩ : Fin 524288) = ⟨b.val * 128 + d.val, by omega⟩ :=
    Fin.ext (by show b.val * 128 + p.val / 19 = b.val * 128 + d.val; omega)
  have hk : (⟨p.val % 19, by omega⟩ : Fin 19) = k := Fin.ext (by show p.val % 19 = k.val; omega)
  have hq : p.val / 19 = d.val := by omega
  have hu' := hu ⟨b.val * 128 + d.val, by omega⟩ rfl
  have key : ∀ (j : Fin 4) (r : Fin 2097152), r.val = (b.val * 128 + d.val) * 4 + j.val →
      refHot (refPairs (refColumn (refCell u))) (ix2 r k) = if cell c + j.val = k.val then 1 else 0 := fun j r hr => by
    refine refHot_apply _ r k _ (refPairs_row _) (refPairs_col _ r _ (by have := cell_le c; omega) ?_)
    exact refColumn_apply _ ⟨b.val * 128 + d.val, by omega⟩ j r hr _ (refCell_apply u _ c h h' hu')
  unfold refTable
  pointwise [refSpread]
  simp only [hk, hq]
  simp only [refBasis_apply _ _ _ (refLocal_apply u ⟨b.val * 128 + d.val, by omega⟩ c h hu')]
  rw [Fin.sum_univ_four, key 0 _ rfl, key 1 _ rfl, key 2 _ rfl, key 3 _ rfl]
  rw [weight_coe]
  simp only [mul_ite, mul_one, mul_zero]
  rfl

end Cert.Kan

end
-- ==== Proof.Equation.lean ====
/- The equation: the kernel's result array is the reference's. -/
module

public import proofs.«01_k».proof.Proof.KernelNorm
public import proofs.«01_k».proof.Proof.RefTable

@[expose] public section

noncomputable section

namespace Cert.Kan

open Idealize.ShloMosaic Idealize.ShloMosaic.TcCoe Idealize.SL.Sem

/-- The scaled coefficient of feature `d` and basis function `k`. -/
theorem refCoef_apply (w : FVec Ideal Cert.ReferenceIdeal.S128x19x128 .f32) (ss : FVec Ideal Cert.ReferenceIdeal.S128x128 .f32) (d : Fin 128) (k : Fin 19)
    (o : Fin 128) (p : Fin 2432) (hp : p.val = d.val * 19 + k.val) : refCoef w ss (ix2 p o) = w (ix3 d k o) * ss (ix2 d o) := by
  have hd : (⟨p.val / 19, by omega⟩ : Fin 128) = d := Fin.ext (by show p.val / 19 = d.val; omega)
  have hk : (⟨p.val % 19, by omega⟩ : Fin 19) = k := Fin.ext (by show p.val % 19 = k.val; omega)
  pointwise [refCoef]
  rw [hd, hk]

/-- A sum over the flat pairs of a feature and a basis function, by basis function and then by feature. -/
theorem sum_pairs (f : Fin 2432 → EReal) : ∑ p : Fin 2432, f p = ∑ k : Fin 19, ∑ d : Fin 128, f ⟨d.val * 19 + k.val, by omega⟩ := by
  rw [Finset.sum_comm, ← Fintype.sum_prod_type' (fun (d : Fin 128) (k : Fin 19) => f ⟨d.val * 19 + k.val, by omega⟩)]
  refine (Fintype.sum_equiv (finProdFinEquiv (m := 128) (n := 19)) _ _ (fun q => ?_)).symm
  congr 1
  exact Fin.ext (by show q.1.val * 19 + q.2.val = q.2.val + 19 * q.1.val; omega)

/-- The reference's result at one entry, its table and coefficients apart. -/
theorem refOut_apply (x : FVec Ideal Cert.ReferenceIdeal.S4096x128 .f32) (w : FVec Ideal Cert.ReferenceIdeal.S128x19x128 .f32)
    (ss bs : FVec Ideal Cert.ReferenceIdeal.S128x128 .f32) (b : Fin 4096) (o : Fin 128) :
    refOut x w ss bs (ix2 b o)
      = (∑ p : Fin 2432, refTable (refFlat (refNorm x)) (ix2 b p) * refCoef w ss (ix2 p o)) + refBase (refNorm x) bs (ix2 b o) := by
  pointwise [refOut]

/-- The kernel's result array is the reference's, whatever the arguments hold. -/
theorem result_eq (x : FVec Ideal Cert.ReferenceIdeal.S4096x128 .f32) (w : FVec Ideal Cert.ReferenceIdeal.S128x19x128 .f32)
    (ss bs : FVec Ideal Cert.ReferenceIdeal.S128x128 .f32) : Cert.KernelIdeal.Value.G4 (F := Ideal) x w ss bs = refOut x w ss bs := by
  funext i
  idx_vars i
  rw [refOut_apply, sum_pairs, refBase_apply, add_comm]
  refine (G4_apply x w ss bs i0 i1).trans ?_
  simp only [refNorm_apply]
  congr 1
  refine Finset.sum_congr rfl fun k _ => Finset.sum_congr rfl fun d _ => ?_
  rw [refCoef_apply w ss d k i1 _ rfl, refTable_apply _ i0 d k _ rfl (clipAt x i0 d) (neg_one_le_clipped _) (clipped_le_one _) (fun n hn => ?_)]
  rw [refFlat_apply _ i0 d n hn, refNorm_apply]

end Cert.Kan

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments, and declares no semaphore, so every counter is zero. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two runs from equal arguments leave equal results: the kernel's array, the reference's array, and the equation
    of the two. -/
theorem equal_results : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.Kan.res_eq_refOut]
  simp only [hagree c]
  exact (Cert.Kan.result_eq _ _ _ _).symm

/-- The four named constants stand for the fractions their words are nearest to. -/
theorem constants_kept : Cert.preserves_Kernel_KernelIdeal := ⟨
  IdealRules.named_const.statement Cert.KernelIdeal.κ "third" .f32 0x3EAAAAAB#32 ((1 / 3 : ℝ) : EReal) rfl,
  IdealRules.named_const.statement Cert.KernelIdeal.κ "neg_sixth" .f32 0xBE2AAAAB#32 ((-1 / 6 : ℝ) : EReal) rfl,
  IdealRules.named_const.statement Cert.KernelIdeal.κ "sixth" .f32 0x3E2AAAAB#32 ((1 / 6 : ℝ) : EReal) rfl,
  IdealRules.named_const.statement Cert.KernelIdeal.κ "two_thirds" .f32 0x3F2AAAAB#32 ((2 / 3 : ℝ) : EReal) rfl⟩

/-- The claim: the three frames, the named constants and the equality of results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference,
  constants_kept, equal_results⟩

end Cert.Proof

end
